-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x256x64x512 : Shape := ⟨4, ![8, 256, 64, 512]⟩
abbrev S32x32 : Shape := ⟨2, ![32, 32]⟩
abbrev S32 : Shape := ⟨1, ![32]⟩
abbrev S32x256 : Shape := ⟨2, ![32, 256]⟩
abbrev S256 : Shape := ⟨1, ![256]⟩
abbrev S_ : Shape := ⟨0, ![]⟩

class Facts : Prop where
  bcast_S_S8x256x64x512 : S_.BroadcastsInDim S8x256x64x512 (![] : Fin 0 → Fin S8x256x64x512.rank)
  bcast_S_S32x32 : S_.BroadcastsInDim S32x32 (![] : Fin 0 → Fin S32x32.rank)
  bcast_S_S32 : S_.BroadcastsInDim S32 (![] : Fin 0 → Fin S32.rank)
  bcast_S_S32x256 : S_.BroadcastsInDim S32x256 (![] : Fin 0 → Fin S32x256.rank)
  bcast_S_S256 : S_.BroadcastsInDim S256 (![] : Fin 0 → Fin S256.rank)

variable [Facts]

def fn {F : FTy → Type} [FloatOps F] (main_arg0 : FVec F S8x256x64x512 .f32) (main_arg1 : FVec F S32x32 .f32) (main_arg2 : FVec F S32 .f32) (main_arg3 : FVec F S32x256 .f32) (main_arg4 : FVec F S256 .f32) (main_arg5 : FVec F S256 .f32) (main_arg6 : FVec F S256 .f32) : IVec S8x256x64x512 1 × IVec S32x32 1 × IVec S32 1 × IVec S32x256 1 × IVec S256 1 :=
  let main_v0 : FVec F S8x256x64x512 .f32 := Host.absf main_arg0
  let main_cst : FVec F S_ .f32 := constant S_ .f32 0x7F800000#32
  let main_v1 : FVec F S8x256x64x512 .f32 := broadcastInDim S8x256x64x512 ![] bcast_S_S8x256x64x512 main_cst
  let main_v2 : IVec S8x256x64x512 1 := cmpf .olt main_v0 main_v1
  let main_v3 : FVec F S32x32 .f32 := Host.absf main_arg1
  let main_cst_0 : FVec F S_ .f32 := constant S_ .f32 0x7F800000#32
  let main_v4 : FVec F S32x32 .f32 := broadcastInDim S32x32 ![] bcast_S_S32x32 main_cst_0
  let main_v5 : IVec S32x32 1 := cmpf .olt main_v3 main_v4
  let main_v6 : FVec F S32 .f32 := Host.absf main_arg2
  let main_cst_1 : FVec F S_ .f32 := constant S_ .f32 0x7F800000#32
  let main_v7 : FVec F S32 .f32 := broadcastInDim S32 ![] bcast_S_S32 main_cst_1
  let main_v8 : IVec S32 1 := cmpf .olt main_v6 main_v7
  let main_v9 : FVec F S32x256 .f32 := Host.absf main_arg3
  let main_cst_2 : FVec F S_ .f32 := constant S_ .f32 0x7F800000#32
  let main_v10 : FVec F S32x256 .f32 := broadcastInDim S32x256 ![] bcast_S_S32x256 main_cst_2
  let main_v11 : IVec S32x256 1 := cmpf .olt main_v9 main_v10
  let main_v12 : FVec F S256 .f32 := Host.absf main_arg4
  let main_cst_3 : FVec F S_ .f32 := constant S_ .f32 0x7F800000#32
  let main_v13 : FVec F S256 .f32 := broadcastInDim S256 ![] bcast_S_S256 main_cst_3
  let main_v14 : IVec S256 1 := cmpf .olt main_v12 main_v13
  (main_v2, main_v5, main_v8, main_v11, main_v14)
-- ==== Kernel.lean ====
abbrev S8x256x64x512 : Shape := ⟨4, ![8, 256, 64, 512]⟩
abbrev S32x32 : Shape := ⟨2, ![32, 32]⟩
abbrev S32 : Shape := ⟨1, ![32]⟩
abbrev S32x256 : Shape := ⟨2, ![32, 256]⟩
abbrev S256 : Shape := ⟨1, ![256]⟩
abbrev S32x1 : Shape := ⟨2, ![32, 1]⟩
abbrev S1x256x1x512 : Shape := ⟨4, ![1, 256, 1, 512]⟩
abbrev S32x512 : Shape := ⟨2, ![32, 512]⟩
abbrev S32x511 : Shape := ⟨2, ![32, 511]⟩
abbrev S32x2 : Shape := ⟨2, ![32, 2]⟩
abbrev S32x510 : Shape := ⟨2, ![32, 510]⟩
abbrev S32x4 : Shape := ⟨2, ![32, 4]⟩
abbrev S32x508 : Shape := ⟨2, ![32, 508]⟩
abbrev S32x8 : Shape := ⟨2, ![32, 8]⟩
abbrev S32x504 : Shape := ⟨2, ![32, 504]⟩
abbrev S32x16 : Shape := ⟨2, ![32, 16]⟩
abbrev S32x496 : Shape := ⟨2, ![32, 496]⟩
abbrev S32x480 : Shape := ⟨2, ![32, 480]⟩
abbrev S32x64 : Shape := ⟨2, ![32, 64]⟩
abbrev S32x448 : Shape := ⟨2, ![32, 448]⟩
abbrev S32x128 : Shape := ⟨2, ![32, 128]⟩
abbrev S32x384 : Shape := ⟨2, ![32, 384]⟩
abbrev S256x512 : Shape := ⟨2, ![256, 512]⟩
abbrev S256x1 : Shape := ⟨2, ![256, 1]⟩
abbrev S256x3 : Shape := ⟨2, ![256, 3]⟩
abbrev S1x256x3x1 : Shape := ⟨4, ![1, 256, 3, 1]⟩
abbrev S1x256x16x512 : Shape := ⟨4, ![1, 256, 16, 512]⟩
abbrev S1x256x1x1 : Shape := ⟨4, ![1, 256, 1, 1]⟩
abbrev S1x16x512 : Shape := ⟨3, ![1, 16, 512]⟩
abbrev S1x1x16x512 : Shape := ⟨4, ![1, 1, 16, 512]⟩

abbrev nBuf : Space → Nat
  | .hbm => 15
  | .vmem => 10
  | .smem => 0
  | _ => 0

abbrev bufTy : (tb : Table) → Fin (tcTables nBuf tb) → BufTy
  | .hbm, ⟨0, _⟩ => ⟨S8x256x64x512, .f32⟩
  | .hbm, ⟨1, _⟩ => ⟨S32x32, .f32⟩
  | .hbm, ⟨2, _⟩ => ⟨S32, .f32⟩
  | .hbm, ⟨3, _⟩ => ⟨S32x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S32x1, .f32⟩
  | .hbm, ⟨8, _⟩ => ⟨S1x256x1x512, .f32⟩
  | .hbm, ⟨9, _⟩ => ⟨S256x1, .f32⟩
  | .hbm, ⟨10, _⟩ => ⟨S256x1, .f32⟩
  | .hbm, ⟨11, _⟩ => ⟨S256x1, .f32⟩
  | .hbm, ⟨12, _⟩ => ⟨S256x3, .f32⟩
  | .hbm, ⟨13, _⟩ => ⟨S1x256x3x1, .f32⟩
  | .hbm, ⟨14, _⟩ => ⟨S8x256x64x512, .f32⟩
  | .local _ .vmem, ⟨0, _⟩ => ⟨S32x32, .f32⟩
  | .local _ .vmem, ⟨1, _⟩ => ⟨S32x1, .f32⟩
  | .local _ .vmem, ⟨2, _⟩ => ⟨S32x256, .f32⟩
  | .local _ .vmem, ⟨3, _⟩ => ⟨S1x256x1x512, .f32⟩
  | .local _ .vmem, ⟨4, _⟩ => ⟨S1x256x16x512, .f32⟩
  | .local _ .vmem, ⟨5, _⟩ => ⟨S1x256x16x512, .f32⟩
  | .local _ .vmem, ⟨6, _⟩ => ⟨S1x256x1x512, .f32⟩
  | .local _ .vmem, ⟨7, _⟩ => ⟨S1x256x3x1, .f32⟩
  | .local _ .vmem, ⟨8, _⟩ => ⟨S1x256x16x512, .f32⟩
  | .local _ .vmem, ⟨9, _⟩ => ⟨S1x256x16x512, .f32⟩
  | _, _ => ⟨S8x256x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := .none

abbrev stage0_0 : Fin 1 → Memref sig .tc .vmem S32x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![32], ![false]⟩

def cc1_transform_0 (i : grid1.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_3 (i : grid1.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage1_0 : Fin 2 → Memref sig .tc .vmem S1x256x16x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256x1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256x3x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x256x16x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S8x256x64x512 : Shape := ⟨4, ![8, 256, 64, 512]⟩
abbrev S32x32 : Shape := ⟨2, ![32, 32]⟩
abbrev S32 : Shape := ⟨1, ![32]⟩
abbrev S32x256 : Shape := ⟨2, ![32, 256]⟩
abbrev S256 : Shape := ⟨1, ![256]⟩
abbrev S_ : Shape := ⟨0, ![]⟩
abbrev S512x32 : Shape := ⟨2, ![512, 32]⟩
abbrev S1x32 : Shape := ⟨2, ![1, 32]⟩
abbrev S512x256 : Shape := ⟨2, ![512, 256]⟩
abbrev S256x512 : Shape := ⟨2, ![256, 512]⟩
abbrev S1x256x1x512 : Shape := ⟨4, ![1, 256, 1, 512]⟩
abbrev S1x256x1x1 : Shape := ⟨4, ![1, 256, 1, 1]⟩
abbrev S8x64x512x256 : Shape := ⟨4, ![8, 64, 512, 256]⟩
abbrev S8x64x512 : Shape := ⟨3, ![8, 64, 512]⟩
abbrev S8x64x512x1 : Shape := ⟨4, ![8, 64, 512, 1]⟩
abbrev S1x1x1x256 : Shape := ⟨4, ![1, 1, 1, 256]⟩

abbrev nBuf : Space → Nat
  | .hbm => 75
  | .vmem => 0
  | .smem => 0
  | _ => 0

abbrev bufTy : (tb : Table) → Fin (tcTables nBuf tb) → BufTy
  | .hbm, ⟨0, _⟩ => ⟨S8x256x64x512, .f32⟩
  | .hbm, ⟨1, _⟩ => ⟨S32x32, .f32⟩
  | .hbm, ⟨2, _⟩ => ⟨S32, .f32⟩
  | .hbm, ⟨3, _⟩ => ⟨S32x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S_, .f32⟩
  | .hbm, ⟨8, _⟩ => ⟨S32, .f32⟩
  | .hbm, ⟨9, _⟩ => ⟨S_, .f32⟩
  | .hbm, ⟨10, _⟩ => ⟨S512x32, .f32⟩
  | .hbm, ⟨11, _⟩ => ⟨S_, .i32⟩
  | .hbm, ⟨12, _⟩ => ⟨S32x32, .f32⟩
  | .hbm, ⟨13, _⟩ => ⟨S32, .f32⟩
  | .hbm, ⟨14, _⟩ => ⟨S_, .i32⟩
  | .hbm, ⟨15, _⟩ => ⟨S32, .f32⟩
  | .hbm, ⟨16, _⟩ => ⟨S512x32, .f32⟩
  | .hbm, ⟨17, _⟩ => ⟨S_, .i32⟩
  | .hbm, ⟨18, _⟩ => ⟨S_, .i1⟩
  | .hbm, ⟨19, _⟩ => ⟨S32, .f32⟩
  | .hbm, ⟨20, _⟩ => ⟨S32, .f32⟩
  | .hbm, ⟨21, _⟩ => ⟨S1x32, .f32⟩
  | .hbm, ⟨22, _⟩ => ⟨S_, .i32⟩
  | .hbm, ⟨23, _⟩ => ⟨S512x32, .f32⟩
  | .hbm, ⟨24, _⟩ => ⟨S_, .i32⟩
  | .hbm, ⟨25, _⟩ => ⟨S_, .i32⟩
  | .hbm, ⟨26, _⟩ => ⟨S512x256, .f32⟩
  | .hbm, ⟨27, _⟩ => ⟨S256x512, .f32⟩
  | .hbm, ⟨28, _⟩ => ⟨S1x256x1x512, .f32⟩
  | .hbm, ⟨29, _⟩ => ⟨S1x256x1x1, .f32⟩
  | .hbm, ⟨30, _⟩ => ⟨S8x256x64x512, .f32⟩
  | .hbm, ⟨31, _⟩ => ⟨S8x256x64x512, .f32⟩
  | .hbm, ⟨32, _⟩ => ⟨S8x256x64x512, .f32⟩
  | .hbm, ⟨33, _⟩ => ⟨S8x256x64x512, .f32⟩
  | .hbm, ⟨34, _⟩ => ⟨S_, .f32⟩
  | .hbm, ⟨35, _⟩ => ⟨S8x256x64x512, .f32⟩
  | .hbm, ⟨36, _⟩ => ⟨S8x256x64x512, .f32⟩
  | .hbm, ⟨37, _⟩ => ⟨S8x256x64x512, .f32⟩
  | .hbm, ⟨38, _⟩ => ⟨S_, .f32⟩
  | .hbm, ⟨39, _⟩ => ⟨S8x256x64x512, .f32⟩
  | .hbm, ⟨40, _⟩ => ⟨S8x256x64x512, .f32⟩
  | .hbm, ⟨41, _⟩ => ⟨S8x256x64x512, .f32⟩
  | .hbm, ⟨42, _⟩ => ⟨S8x256x64x512, .f32⟩
  | .hbm, ⟨43, _⟩ => ⟨S8x256x64x512, .f32⟩
  | .hbm, ⟨44, _⟩ => ⟨S8x64x512x256, .f32⟩
  | .hbm, ⟨45, _⟩ => ⟨S_, .f32⟩
  | .hbm, ⟨46, _⟩ => ⟨S8x64x512, .f32⟩
  | .hbm, ⟨47, _⟩ => ⟨S8x64x512x1, .f32⟩
  | .hbm, ⟨48, _⟩ => ⟨S_, .f32⟩
  | .hbm, ⟨49, _⟩ => ⟨S8x64x512x1, .f32⟩
  | .hbm, ⟨50, _⟩ => ⟨S8x64x512x1, .f32⟩
  | .hbm, ⟨51, _⟩ => ⟨S8x64x512x256, .f32⟩
  | .hbm, ⟨52, _⟩ => ⟨S8x64x512x256, .f32⟩
  | .hbm, ⟨53, _⟩ => ⟨S8x64x512x256, .f32⟩
  | .hbm, ⟨54, _⟩ => ⟨S_, .f32⟩
  | .hbm, ⟨55, _⟩ => ⟨S8x64x512, .f32⟩
  | .hbm, ⟨56, _⟩ => ⟨S8x64x512x1, .f32⟩
  | .hbm, ⟨57, _⟩ => ⟨S_, .f32⟩
  | .hbm, ⟨58, _⟩ => ⟨S8x64x512x1, .f32⟩
  | .hbm, ⟨59, _⟩ => ⟨S8x64x512x1, .f32⟩
  | .hbm, ⟨60, _⟩ => ⟨S8x64x512x256, .f32⟩
  | .hbm, ⟨61, _⟩ => ⟨S8x64x512x256, .f32⟩
  | .hbm, ⟨62, _⟩ => ⟨S_, .f32⟩
  | .hbm, ⟨63, _⟩ => ⟨S8x64x512x1, .f32⟩
  | .hbm, ⟨64, _⟩ => ⟨S8x64x512x1, .f32⟩
  | .hbm, ⟨65, _⟩ => ⟨S8x64x512x1, .f32⟩
  | .hbm, ⟨66, _⟩ => ⟨S8x64x512x256, .f32⟩
  | .hbm, ⟨67, _⟩ => ⟨S8x64x512x256, .f32⟩
  | .hbm, ⟨68, _⟩ => ⟨S1x1x1x256, .f32⟩
  | .hbm, ⟨69, _⟩ => ⟨S8x64x512x256, .f32⟩
  | .hbm, ⟨70, _⟩ => ⟨S8x64x512x256, .f32⟩
  | .hbm, ⟨71, _⟩ => ⟨S1x1x1x256, .f32⟩
  | .hbm, ⟨72, _⟩ => ⟨S8x64x512x256, .f32⟩
  | .hbm, ⟨73, _⟩ => ⟨S8x64x512x256, .f32⟩
  | .hbm, ⟨74, _⟩ => ⟨S8x256x64x512, .f32⟩
  | _, _ => ⟨S8x256x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_c : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev main_v2_4 : Ref sig .tc := ⟨.hbm, 16, rfl⟩
abbrev main_while0c_c_12 : Ref sig .tc := ⟨.hbm, 17, rfl⟩
abbrev main_while0c_v45 : Ref sig .tc := ⟨.hbm, 18, rfl⟩
abbrev main_while0b_v45 : Ref sig .tc := ⟨.hbm, 19, rfl⟩
abbrev main_while0b_v46 : Ref sig .tc := ⟨.hbm, 20, rfl⟩
abbrev main_while0b_call0_v0 : Ref sig .tc := ⟨.hbm, 21, rfl⟩
abbrev main_while0b_call0_c : Ref sig .tc := ⟨.hbm, 22, rfl⟩
abbrev main_while0b_v47 : Ref sig .tc := ⟨.hbm, 23, rfl⟩
abbrev main_while0b_c_12 : Ref sig .tc := ⟨.hbm, 24, rfl⟩
abbrev main_while0b_v48 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_1 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_2 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_3 : Ref sig .tc := ⟨.hbm, 45, rfl⟩
abbrev main_v20 : Ref sig .tc := ⟨.hbm, 46, rfl⟩
abbrev main_v21 : Ref sig .tc := ⟨.hbm, 47, rfl⟩
abbrev main_cst_4 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_5 : Ref sig .tc := ⟨.hbm, 54, rfl⟩
abbrev main_v27 : Ref sig .tc := ⟨.hbm, 55, rfl⟩
abbrev main_v28 : Ref sig .tc := ⟨.hbm, 56, rfl⟩
abbrev main_cst_6 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_7 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩

abbrev nD : Nat := 1
abbrev τ : Topo := Topo.v7x

variable {F : FTy → Type} [FloatOps F]

abbrev main_while0_count : Scf.Loop 32 := ⟨0#32, 512#32, 1#32⟩
-- ==== Proof.Frames.lean ====
/-
  The three frames: each program terminates from any memory, leaves its arguments as launched and every semaphore
  counter at zero. No precondition is used.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import Idealize.ShloMosaic.Lib.Quiescent

@[expose] public section

noncomputable section

namespace Cert.Proof

open Idealize.ShloMosaic Idealize.SL.Sem

/-- The kernel on machine words. -/
theorem frame_kernel : Cert.quiescent_Kernel := fun m ρ _ => Cert.Kernel.Gen.frame m ρ

/-- The kernel on the extended reals. -/
theorem frame_kernelIdeal : Cert.quiescent_KernelIdeal := fun m ρ _ => Cert.KernelIdeal.Gen.frame m ρ

/-- The same under the precondition, which it doesn't use. -/
theorem frame_kernelIdeal_pre : Cert.quiescent_KernelIdeal_pre_finite := fun m ρ _ => Cert.KernelIdeal.Gen.frame m ρ

/-- The reference on the extended reals: its run leaves the arguments, and it has no semaphore. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- The same under the precondition, which it doesn't use. -/
theorem frame_referenceIdeal_pre : Cert.quiescent_ReferenceIdeal_pre_finite := fun m ρ _ =>
  frame_referenceIdeal m ρ trivial

end Cert.Proof

end
-- ==== Proof.Run.lean ====
/-
  The kernel program's run: what every final state holds, the result array included. The launch is set up as the frame
  sets it up; only what is read off the last boundary is more, the result array with the arguments.
-/
module

public import proofs.«01_k».proof.Defs
public import proofs.«01_k».proof.Proof.Gen.KernelIdeal
public import proofs.«01_k».proof.Proof.Gen.KernelIdeal.Frame

@[expose] public section

noncomputable section

namespace Cert.Proof.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates; every final state has the result array at the last
    boundary's contents and the seven arguments as launched. -/
theorem run : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.Proof.Run

end
-- ==== Proof.Finite.lean ====
/-
  What the precondition says of an array: every element is a real number.
-/
module

public import proofs.«01_k».proof.Defs
public import proofs.«01_k».proof.Proof.Gen.Pre_finite
public import Idealize.ShloMosaic.Lib.Pointwise

@[expose] public section

noncomputable section

namespace Cert.Proof

open Idealize.ShloMosaic

/-- A number whose absolute value compares below positive infinity is real. -/
theorem real_of_lt {v : EReal} (h : Ideal.cmp .olt (max v (-v)) (Ideal.ofBits .f32 0x7F800000#32) = 1#1) :
    ∃ r : ℝ, v = (r : EReal) := by
  induction v with
  | bot => simp [Ideal.cmp, Ideal.ofBits, Ideal.ieee] at h
  | top => simp [Ideal.cmp, Ideal.ofBits, Ideal.ieee] at h
  | coe r => exact ⟨r, rfl⟩

/-- An array whose absolute values all compare below positive infinity is an array of real numbers. -/
theorem real_array {s : Shape} (hs : Cert.Pre_finite.S_.BroadcastsInDim s (![] : Fin 0 → Fin s.rank)) (X : FVec Ideal s .f32)
    (h : cmpf .olt (Host.absf X) (broadcastInDim s ![] hs (constant Cert.Pre_finite.S_ .f32 0x7F800000#32)) = fun _ => 1#1) :
    ∃ R : s.Idx → ℝ, ∀ j, X j = ((R j : ℝ) : EReal) :=
  Classical.skolem.mp fun j => real_of_lt (congrFun h j)

end Cert.Proof

end
-- ==== Proof.Recurrence.lean ====
/-
  The state recurrence over the real numbers: the state after n + m steps from zero is the state after n steps plus the
  n-th power of the matrix applied to the state after m. The kernel doubles by it, the reference goes step by step.
-/
module

public import Mathlib.Data.Matrix.Mul
public import Mathlib.Data.Real.Basic
public import Mathlib.LinearAlgebra.Matrix.Notation

@[expose] public section

noncomputable section

namespace Cert.Proof

open Matrix

/-- The state after `n` steps of `s ↦ A s + b` from zero. -/
def state (A : Matrix (Fin 32) (Fin 32) ℝ) (b : Fin 32 → ℝ) : ℕ → Fin 32 → ℝ
  | 0 => 0
  | n + 1 => A *ᵥ state A b n + b

variable (A : Matrix (Fin 32) (Fin 32) ℝ) (b : Fin 32 → ℝ)

/-- The state after `n + m` steps is that after `n` plus the `n`-th power of `A` applied to that after `m`. -/
theorem state_add (n m : ℕ) : state A b (n + m) = state A b n + A ^ n *ᵥ state A b m := by
  induction n with
  | zero => simp [state]
  | succ n ih =>
    rw [Nat.add_right_comm]
    simp only [state, ih, mulVec_add, mulVec_mulVec, pow_succ']
    rw [add_right_comm]

/-- Doubling: column `t` of the window sums of length `2 N` from those of length `N`, the column `N` to the left (zero where
    there is none) going through the `N`-th power. -/
theorem state_double (N t : ℕ) (i : Fin 32) :
    state A b (min (t + 1) (2 * N)) i
      = state A b (min (t + 1) N) i
        + ∑ k, (A ^ N) i k * (if t < N then 0 else state A b (min (t - N + 1) N) k) := by
  by_cases h : t < N
  · have h1 : min (t + 1) (2 * N) = min (t + 1) N := by omega
    simp [h, h1]
  · have h1 : min (t + 1) (2 * N) = N + min (t - N + 1) N := by omega
    have h2 : min (t + 1) N = N := by omega
    simp only [h1, h2, state_add, h, if_false, Pi.add_apply, mulVec, dotProduct]

end Cert.Proof

end
-- ==== Proof.Scalars.lean ====
/-
  The scalar mathematics of the second half: the gelu in its two spellings, the variance in its two spellings, and the
  value of the result at one element that both programs are brought to.
-/
module

public import Idealize.ShloMosaic.Lib.Pointwise
public import Mathlib.Tactic.FieldSimp
public import Mathlib.Tactic.Ring

@[expose] public section

noncomputable section

namespace Cert.Proof

open Idealize.ShloMosaic

/-- A sum of real numbers read as an extended real. -/
theorem coe_sum {ι : Type} [Fintype ι] (f : ι → ℝ) : ((∑ k, f k : ℝ) : EReal) = ∑ k, ((f k : ℝ) : EReal) :=
  map_sum (⟨⟨Real.toEReal, rfl⟩, EReal.coe_add⟩ : ℝ →+ EReal) f Finset.univ

/-- One half, as the programs write it. -/
abbrev half : EReal := Ideal.ofBits .f32 0x3F000000#32

/-- The reciprocal of the square root of two, as the programs write it. -/
abbrev rsqrtTwo : EReal := Ideal.ofBits .f32 0x3F3504F3#32

/-- The number of features, as the programs write it. -/
abbrev count : EReal := Ideal.ofBits .f32 0x43800000#32

/-- What the layer norm adds to the variance, as the programs write it. -/
abbrev epsilon : EReal := Ideal.ofBits .f32 0x3727C5AC#32

theorem count_eq : count = ((256 : ℝ) : EReal) := by
  simp [Ideal.ofBits, Ideal.ieee, -EReal.coe_mul]
  norm_num

theorem half_real : ∃ h : ℝ, half = (h : EReal) := ⟨_, by simp [Ideal.ofBits, Ideal.ieee, -EReal.coe_mul]; rfl⟩

theorem rsqrtTwo_real : ∃ h : ℝ, rsqrtTwo = (h : EReal) := ⟨_, by simp [Ideal.ofBits, Ideal.ieee, -EReal.coe_mul]; rfl⟩

/-- The input plus the gelu of the pre-activation `t`. -/
def residual (x t : EReal) : EReal := x + half * t * (1 + Ideal.erf (t * rsqrtTwo))

/-- The same with the complementary error function of the negated argument. -/
theorem residual_erfc (x t : EReal) : x + half * t * Ideal.erfc (-t * rsqrtTwo) = residual x t := by
  rw [EReal.neg_mul, Ideal.erfc_neg, residual]

/-- On real numbers it is a real number. -/
theorem residual_real (x t : ℝ) : ∃ o : ℝ, residual x t = (o : EReal) := by
  obtain ⟨h, hh⟩ := half_real
  obtain ⟨q, hq⟩ := rsqrtTwo_real
  rw [residual, hh, hq, ← EReal.coe_mul, ← EReal.coe_mul, Ideal.erf_coe, ← EReal.coe_one, ← EReal.coe_add, ← EReal.coe_mul,
    ← EReal.coe_add]
  exact ⟨_, rfl⟩

/-- The mean over the features. -/
def meanOf (o : Fin 256 → EReal) : EReal := Ideal.div (∑ g, o g) count

/-- The mean of real numbers. -/
theorem meanOf_coe (o : Fin 256 → ℝ) : meanOf (fun g => (o g : EReal)) = (((∑ g, o g) / 256 : ℝ) : EReal) := by
  rw [meanOf, count_eq, Ideal.div_coe (by norm_num), ← coe_sum, ← EReal.coe_mul, mul_one_div]

/-- For real numbers the mean of the squares less the square of the mean is the mean of the squared deviations. -/
theorem variance (o : Fin 256 → ℝ) :
    meanOf (fun g => (o g : EReal) * (o g : EReal)) - meanOf (fun g => (o g : EReal)) * meanOf (fun g => (o g : EReal))
      = meanOf (fun g => ((o g : EReal) - meanOf fun g => (o g : EReal)) * ((o g : EReal) - meanOf fun g => (o g : EReal))) := by
  simp only [meanOf_coe, ← EReal.coe_mul, ← EReal.coe_sub]
  congr 1
  simp only [sub_mul, mul_sub, Finset.sum_sub_distrib, ← Finset.sum_mul, ← Finset.mul_sum, Finset.sum_const, Finset.card_univ,
    Fintype.card_fin, nsmul_eq_mul]
  push_cast
  ring

/-- The layer norm of `o` at feature `f`, with scale `w` and offset `b`. -/
def layer (o : Fin 256 → EReal) (w b : EReal) (f : Fin 256) : EReal :=
  (o f - meanOf o) * Ideal.rsqrt (meanOf (fun g => (o g - meanOf o) * (o g - meanOf o)) + epsilon) * w + b

end Cert.Proof

end
-- ==== Proof.Doubling.lean ====
/-
  What the first kernel region computes: nine doubling stages turn the broadcast input column into the 512 states, and the
  output matrix's transpose is contracted with them.
-/
module

public import proofs.«01_k».proof.Proof.Gen.KernelIdeal
public import proofs.«01_k».proof.Proof.Gen.KernelIdeal.Skeleton
public import proofs.«01_k».proof.Proof.Recurrence
public import proofs.«01_k».proof.Proof.Scalars

@[expose] public section

set_option maxRecDepth 16384

noncomputable section

namespace Cert.Proof

open Idealize.ShloMosaic Cert.KernelIdeal Cert.KernelIdeal.Gen

/-- The array `X` holds the real matrix `P`. -/
def IsMat (X : FVec Ideal S32x32 .f32) (P : Matrix (Fin 32) (Fin 32) ℝ) : Prop :=
  ∀ i j : Fin 32, X (ix2 i j) = ((P i j : ℝ) : EReal)

/-- Column `t` of `X` holds the state after `t + 1` steps, but after `N` at most. -/
def IsWindow (X : FVec Ideal S32x512 .f32) (A : Matrix (Fin 32) (Fin 32) ℝ) (b : Fin 32 → ℝ) (N : ℕ) : Prop :=
  ∀ (i : Fin 32) (t : Fin 512), X (ix2 i t) = ((state A b (min (t.val + 1) N) i : ℝ) : EReal)

/-- A matrix power times itself is the power of twice the exponent. -/
theorem square {X : FVec Ideal S32x32 .f32} {A : Matrix (Fin 32) (Fin 32) ℝ} {N : ℕ} (h : IsMat X (A ^ N)) :
    IsMat (matmul dot_S32x32_S32x32_S32x32_1_0_0_1_n_n (some .fp32) X X (constant S32x32 .f32 0x00000000#32)) (A ^ (2 * N)) := by
  intro i j
  pointwise
  rw [two_mul, pow_add, Matrix.mul_apply, coe_sum]
  simp only [h _ _, EReal.coe_mul]

/-- One stage: the windows of length `N`, shifted right by `N` columns behind zeros, go through the `N`-th power and are
    added to themselves; this gives the windows of length `2 N`. -/
theorem stage {X Y : FVec Ideal S32x512 .f32} {Z : FVec Ideal S32x32 .f32} {A : Matrix (Fin 32) (Fin 32) ℝ} {b : Fin 32 → ℝ}
    {N : ℕ} (hX : IsWindow X A b N) (hZ : IsMat Z (A ^ N))
    (hY : ∀ (i : Fin 32) (t : Fin 512), Y (ix2 i t) = if _h : t.val < N then 0 else X (ix2 i ⟨t.val - N, by omega⟩)) :
    IsWindow (addf X (matmul dot_S32x32_S32x512_S32x512_1_0_0_1_n_n (some .fp32) Z Y (constant S32x512 .f32 0x00000000#32)))
      A b (2 * N) := by
  intro i t
  pointwise
  rw [state_double, EReal.coe_add, coe_sum, hX i t]
  congr 1
  refine Finset.sum_congr rfl fun k _ => ?_
  rw [hZ i k, hY k t, EReal.coe_mul]
  congr 1
  split
  · exact EReal.coe_zero.symm
  · exact hX k _

/-- The contraction of the output matrix's rows with the windows of length 512, which reach back to the start: at column `t`
    the state is that after `t + 1` steps. -/
theorem output {v58 : Vec Ideal S32x256 .f32} {C : Fin 32 → Fin 256 → ℝ} {X : FVec Ideal S32x512 .f32}
    {A : Matrix (Fin 32) (Fin 32) ℝ} {b : Fin 32 → ℝ}
    (hC : ∀ (i : Fin 32) (f : Fin 256), v58 (ix2 i f) = ((C i f : ℝ) : EReal)) (hX : IsWindow X A b 512)
    (f : Fin 256) (t : Fin 512) :
    shapeCast S1x256x1x512 (matmul (φ₁ := .f32) dot_S32x256_S32x512_S256x512_0_0_1_1_n_n (some .fp32) v58 X
        (constant S256x512 .f32 0x00000000#32)) shapeCasts_S256x512_S1x256x1x512 (ix4 0 f 0 t)
      = ((∑ k, C k f * state A b (t.val + 1) k : ℝ) : EReal) := by
  rw [coe_sum]
  pointwise
  refine Finset.sum_congr rfl fun k _ => ?_
  have ht : min (t.val + 1) 512 = t.val + 1 := by omega
  rw [hC k f, hX k t, EReal.coe_mul, ht]

section Region

variable {v0 : Vec Ideal S32x1 .f32} {v4 : Vec Ideal S32x32 .f32} {A : Matrix (Fin 32) (Fin 32) ℝ} {b : Fin 32 → ℝ}

theorem pow1 (hA : IsMat v4 A) : IsMat v4 (A ^ 1) := by rwa [pow_one]

theorem pow2 (hA : IsMat v4 A) : IsMat (k0_pay2 v4) (A ^ 2) := square (pow1 hA)

theorem pow4 (hA : IsMat v4 A) : IsMat (k0_pay3 v4) (A ^ 4) := square (pow2 hA)

theorem pow8 (hA : IsMat v4 A) : IsMat (k0_pay4 v4) (A ^ 8) := square (pow4 hA)

theorem pow16 (hA : IsMat v4 A) : IsMat (k0_pay5 v4) (A ^ 16) := square (pow8 hA)

theorem pow32 (hA : IsMat v4 A) : IsMat (k0_pay7 v4) (A ^ 32) := square (pow16 hA)

/-- The broadcast input column is the windows of length one. -/
theorem window1 {X : FVec Ideal S32x512 .f32} (h : ∀ (i : Fin 32) (t : Fin 512), X (ix2 i t) = ((b i : ℝ) : EReal)) :
    IsWindow X A b 1 := by
  intro i t
  rw [h i t, show min (t.val + 1) 1 = 0 + 1 by omega]
  simp [state]

/-- After five stages the windows have length 32. -/
theorem window32 (hA : IsMat v4 A) (hb : ∀ i : Fin 32, v0 (ix2 i 0) = ((b i : ℝ) : EReal)) :
    IsWindow (k0_pay6 v0 v4) A b 32 := by
  unfold k0_pay6
  refine stage (N := 16) (stage (N := 8) (stage (N := 4) (stage (N := 2) (stage (N := 1) (window1 ?_) (pow1 hA) ?_)
    (pow2 hA) ?_) (pow4 hA) ?_) (pow8 hA) ?_) (pow16 hA) ?_
  · intro i t
    pointwise
    exact hb i
  · intro i t
    pointwise
  all_goals
    intro i t
    generalize addf (F := Ideal) _ _ = X
    pointwise

/-- The block the first region writes: the output matrix's transpose times the states, the state of column `t` being that
    after `t + 1` steps. -/
theorem yc_block {v58 : Vec Ideal S32x256 .f32} {C : Fin 32 → Fin 256 → ℝ} (hA : IsMat v4 A)
    (hb : ∀ i : Fin 32, v0 (ix2 i 0) = ((b i : ℝ) : EReal))
    (hC : ∀ (i : Fin 32) (f : Fin 256), v58 (ix2 i f) = ((C i f : ℝ) : EReal)) (f : Fin 256) (t : Fin 512) :
    k0_pay1 (k0_pay6 v0 v4) (k0_pay7 v4) (k0_pay8 v0 v4) v58 (ix4 0 f 0 t)
      = ((∑ k, C k f * state A b (t.val + 1) k : ℝ) : EReal) := by
  have h64 : IsWindow (addf (k0_pay6 v0 v4) (k0_pay8 v0 v4)) A b 64 := by
    unfold k0_pay8
    refine stage (N := 32) (window32 hA hb) (pow32 hA) fun i t => ?_
    generalize k0_pay6 v0 v4 = X
    pointwise
  have p64 := square (pow32 hA)
  have p128 := square p64
  have p256 := square p128
  unfold k0_pay1
  refine output hC (stage (N := 256) (stage (N := 128) (stage (N := 64) h64 p64 ?_) p128 ?_) p256 ?_) f t
  all_goals
    intro i t
    generalize addf (F := Ideal) _ _ = X
    pointwise

end Region

end Cert.Proof

end
-- ==== Proof.Fused.lean ====
/-
  What the second kernel region computes at one grid point: the layer norm over the features of the input plus the gelu of the
  pre-activation.
-/
module

public import proofs.«01_k».proof.Proof.Gen.KernelIdeal
public import proofs.«01_k».proof.Proof.Gen.KernelIdeal.Skeleton
public import proofs.«01_k».proof.Proof.Scalars

@[expose] public section

set_option maxRecDepth 16384

noncomputable section

namespace Cert.Proof

open Idealize.ShloMosaic Cert.KernelIdeal Cert.KernelIdeal.Gen

/-- The block the second region writes, from the blocks it reads: `x0` of the input, `x1` of the states through the output
    matrix, `x2` of the skip weights, the scale and the offset. The values that are normed must be real numbers, since the
    variance is taken as the mean of the squares less the square of the mean. -/
theorem fused_block (x0 : Vec Ideal S1x256x16x512 .f32) (x1 : Vec Ideal S1x256x1x512 .f32) (x2 : Vec Ideal S1x256x3x1 .f32)
    (f : Fin 256) (r : Fin 16) (t : Fin 512) (o : Fin 256 → ℝ)
    (ho : ∀ g : Fin 256, residual (x0 (ix4 0 g r t)) (x0 (ix4 0 g r t) * x2 (ix4 0 g 0 0) + x1 (ix4 0 g 0 t)) = (o g : EReal)) :
    k1_pay1 (k1_pay3 x2) (k1_pay4 x2) (k1_pay5 x2 x0 x1) (ix4 0 f r t)
      = layer (fun g => (o g : EReal)) (x2 (ix4 0 f 1 0)) (x2 (ix4 0 f 2 0)) f := by
  pointwise [k1_pay1, k1_pay2, k1_pay3, k1_pay4, k1_pay5]
  rw [layer, ← variance]
  simp only [← ho]
  rfl

end Cert.Proof

end
-- ==== Proof.KernelValue.lean ====
/-
  What the kernel program's result array holds at the end of its run, from the blocks of its two regions.
-/
module

public import proofs.«01_k».proof.Proof.Gen.KernelIdeal.Frame
public import proofs.«01_k».proof.Proof.Doubling
public import proofs.«01_k».proof.Proof.Fused
public import Idealize.ShloMosaic.Lib.Pipeline.ValueKit

@[expose] public section

set_option maxRecDepth 16384

noncomputable section

namespace Cert.Proof

open Idealize.ShloMosaic Idealize.ShloMosaic.TcCoe Idealize.SL.Sem Cert.KernelIdeal Cert.KernelIdeal.Gen

variable (V : (c : Dev nD) → (b : Ref sig .tc) → Buf (Elt Ideal) ((c : Thread nD τ).loc b)) (c : Dev nD)

/-- The first region's output array: its one block, from the whole input arrays. -/
theorem region0 : (dat0 V c).arrAt 3 cfg0.N
    = k0_pay1 (k0_pay6 (V c main_v0) (V c main_arg1)) (k0_pay7 (V c main_arg1)) (k0_pay8 (V c main_v0) (V c main_arg1))
        (V c main_arg3) := by
  refine (dat0 V c).arrAt_eq_of_covers 3 _ (by decide +kernel) fun t hf y => ?_
  have e : ∀ t : Fin cfg0.N, win0_0.index t = ![0, 0] ∧ win0_1.index t = ![0, 0] ∧ win0_2.index t = ![0, 0]
    ∧ win0_3.index t = ![0, 0, 0, 0] := by decide +kernel
  have h0 : iblk0 V c 0 t = V c main_arg1 := by funext z; blk_ext [iblk0, e t]
  have h1 : iblk0 V c 1 t = V c main_v0 := by funext z; blk_ext [iblk0, e t]
  have h2 : iblk0 V c 2 t = V c main_arg3 := by funext z; blk_ext [iblk0, e t]
  blk_simp
  rw [after0_3]
  frame_out
  rw [h0, h1, h2]
  blk_ext [e t]

/-- The result from the three arrays the second region reads: the input `x`, the states through the output matrix `yc`, and
    `pk` with the skip weights, the scale and the offset. -/
def result (x : FVec Ideal S8x256x64x512 .f32) (yc : FVec Ideal S1x256x1x512 .f32) (pk : FVec Ideal S1x256x3x1 .f32) :
    FVec Ideal S8x256x64x512 .f32 := fun i =>
  layer (fun g => residual (x (ix4 (i 0) g (i 2) (i 3)))
      (x (ix4 (i 0) g (i 2) (i 3)) * pk (ix4 0 g 0 0) + yc (ix4 0 g 0 (i 3))))
    (pk (ix4 0 (i 1) 1 0)) (pk (ix4 0 (i 1) 2 0)) (i 1)

/-- The second region's output array, where the values that are normed are real numbers. -/
theorem region1 {x : FVec Ideal S8x256x64x512 .f32} {yc : FVec Ideal S1x256x1x512 .f32} {pk : FVec Ideal S1x256x3x1 .f32}
    (hx : V c main_arg0 = x) (hyc : V c main_v1 = yc) (hpk : V c main_v6 = pk)
    (ho : ∀ (n : Fin 8) (g : Fin 256) (r : Fin 64) (t : Fin 512), ∃ o : ℝ,
      residual (x (ix4 n g r t)) (x (ix4 n g r t) * pk (ix4 0 g 0 0) + yc (ix4 0 g 0 t)) = (o : EReal)) :
    (dat1 V c).arrAt 3 cfg1.N = result x yc pk := by
  refine (dat1 V c).arrAt_eq_of_covers 3 _ (by decide +kernel) fun t hf y => ?_
  choose o ho using ho
  have e : ∀ t : Fin cfg1.N, win1_0.index t = ![t.val / 4, 0, t.val % 4, 0] ∧ win1_1.index t = ![0, 0, 0, 0]
    ∧ win1_2.index t = ![0, 0, 0, 0] ∧ win1_3.index t = ![t.val / 4, 0, t.val % 4, 0] := by decide +kernel
  have lt : t.val < 32 := t.isLt
  have h0 : ∀ (g : Fin 256) (r : Fin 16) (l : Fin 512), iblk1 V c 0 t (ix4 0 g r l)
      = x (ix4 ⟨t.val / 4, by omega⟩ g ⟨t.val % 4 * 16 + r.val, by omega⟩ l) := by
    intro g r l; rw [← hx]; blk_ext [iblk1, e t]
  have h1 : iblk1 V c 1 t = yc := by rw [← hyc]; funext z; blk_ext [iblk1, e t]
  have h2 : iblk1 V c 2 t = pk := by rw [← hpk]; funext z; blk_ext [iblk1, e t]
  rw [after1_3]
  frame_out
  rw [h1, h2]
  obtain ⟨a, f, r, l, rfl⟩ : ∃ (a : Fin 1) (f : Fin 256) (r : Fin 16) (l : Fin 512), y = ix4 a f r l :=
    ⟨y 0, y 1, y 2, y 3, eq_ix4 (y : S1x256x16x512.Idx)⟩
  obtain rfl : a = 0 := Subsingleton.elim _ _
  have he : (win1_3.blk t).view.emb (ix4 0 f r l) = ix4 ⟨t.val / 4, by omega⟩ f ⟨t.val % 4 * 16 + r.val, by omega⟩ l := by
    blk_ext [e t]
  blk_simp
  refine Eq.trans ?_ (congrArg (result x yc pk) he).symm
  refine (fused_block _ _ _ _ _ _ (fun g => o ⟨t.val / 4, by omega⟩ g ⟨t.val % 4 * 16 + r.val, by omega⟩ l)
    (fun g => by rw [h0, ho])).trans ?_
  simp only [← ho]
  rfl

end Cert.Proof

end
-- ==== Proof.Whole.lean ====
/-
  The kernel program's result array in terms of its seven arguments: what the two regions and the host operations between
  them leave, put together.
-/
module

public import proofs.«01_k».proof.Proof.KernelValue
public import Idealize.ShloMosaic.Lib.StableHlo.ReadAt

@[expose] public section

set_option maxRecDepth 16384

noncomputable section

namespace Cert.Proof

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- The input column as the first region reads it. -/
theorem column_at (i : Fin 32) : V1 m ρ c main_v0 (ix2 i 0) = m ((c : Thread nD τ).loc main_arg2) (ix1 i) := by
  unfold V1 W1
  after_reads_at

/-- The packed array the second region reads, in its three columns: the skip weights, the scale, the offset. -/
theorem packed_at (g : Fin 256) : V3 m ρ c main_v6 (ix4 0 g 0 0) = m ((c : Thread nD τ).loc main_arg4) (ix1 g)
    ∧ V3 m ρ c main_v6 (ix4 0 g 1 0) = m ((c : Thread nD τ).loc main_arg5) (ix1 g)
    ∧ V3 m ρ c main_v6 (ix4 0 g 2 0) = m ((c : Thread nD τ).loc main_arg6) (ix1 g) := by
  rw [← W2_args m ρ c main_arg4 (by decide), ← W2_args m ρ c main_arg5 (by decide), ← W2_args m ρ c main_arg6 (by decide)]
  unfold V3 W3
  refine ⟨?_, ?_, ?_⟩
  all_goals
    after_reads_at
    after_reads_at

/-- The states through the output matrix as the second region reads them, for real `A`, `b` and `C`. -/
theorem yc_at {A : Matrix (Fin 32) (Fin 32) ℝ} {b : Fin 32 → ℝ} {C : Fin 32 → Fin 256 → ℝ}
    (hA : IsMat (m ((c : Thread nD τ).loc main_arg1)) A)
    (hb : ∀ i : Fin 32, m ((c : Thread nD τ).loc main_arg2) (ix1 i) = ((b i : ℝ) : EReal))
    (hC : ∀ (i : Fin 32) (f : Fin 256), m ((c : Thread nD τ).loc main_arg3) (ix2 i f) = ((C i f : ℝ) : EReal))
    (f : Fin 256) (t : Fin 512) :
    V3 m ρ c main_v1 (ix4 0 f 0 t) = ((∑ k, C k f * state A b (t.val + 1) k : ℝ) : EReal) := by
  have h : V3 m ρ c main_v1 = (dat0 (V1 m ρ) c).arrAt 3 cfg0.N :=
    (W3_of m ρ c main_v1 (by decide)).trans (W2_arr m ρ c 3)
  rw [h, region0]
  have h1 : V1 m ρ c main_arg1 = m ((c : Thread nD τ).loc main_arg1) := W1_args m ρ c main_arg1 (by decide)
  have h3 : V1 m ρ c main_arg3 = m ((c : Thread nD τ).loc main_arg3) := W1_args m ρ c main_arg3 (by decide)
  exact yc_block (h1 ▸ hA) (fun i => (column_at m ρ c i).trans (hb i)) (fun i f => (congrFun h3 _).trans (hC i f)) f t

/-- The result array for real `x`, `A`, `b`, `C` and `D`: the layer norm of the residuals, the state at time `t` being that after
    `t + 1` steps of the recurrence. -/
theorem kernel_value {x : Fin 8 → Fin 256 → Fin 64 → Fin 512 → ℝ} {A : Matrix (Fin 32) (Fin 32) ℝ} {b : Fin 32 → ℝ}
    {C : Fin 32 → Fin 256 → ℝ} {D : Fin 256 → ℝ}
    (hx : ∀ n g r t, m ((c : Thread nD τ).loc main_arg0) (ix4 n g r t) = ((x n g r t : ℝ) : EReal))
    (hA : IsMat (m ((c : Thread nD τ).loc main_arg1)) A)
    (hb : ∀ i : Fin 32, m ((c : Thread nD τ).loc main_arg2) (ix1 i) = ((b i : ℝ) : EReal))
    (hC : ∀ (i : Fin 32) (f : Fin 256), m ((c : Thread nD τ).loc main_arg3) (ix2 i f) = ((C i f : ℝ) : EReal))
    (hD : ∀ f : Fin 256, m ((c : Thread nD τ).loc main_arg4) (ix1 f) = ((D f : ℝ) : EReal))
    (n : Fin 8) (f : Fin 256) (r : Fin 64) (t : Fin 512) :
    W4 m ρ c (Proc.devRef .tc main_v7) (ix4 n f r t)
      = layer (fun g => residual (x n g r t : ℝ) ((∑ k, C k g * state A b (t.val + 1) k + x n g r t * D g : ℝ) : EReal))
          (m ((c : Thread nD τ).loc main_arg5) (ix1 f)) (m ((c : Thread nD τ).loc main_arg6) (ix1 f)) f := by
  have h0 : V3 m ρ c main_arg0 = m ((c : Thread nD τ).loc main_arg0) := W3_args m ρ c main_arg0 (by decide)
  have hpk := packed_at m ρ c
  have hyc := yc_at m ρ c hA hb hC
  have e : W4 m ρ c (Proc.devRef .tc main_v7) = (dat1 (V3 m ρ) c).arrAt 3 cfg1.N := W4_arr m ρ c 3
  obtain ⟨yc, eyc⟩ : ∃ yc : FVec Ideal S1x256x1x512 .f32, V3 m ρ c main_v1 = yc := ⟨_, rfl⟩
  obtain ⟨pk, epk⟩ : ∃ pk : FVec Ideal S1x256x3x1 .f32, V3 m ρ c main_v6 = pk := ⟨_, rfl⟩
  obtain ⟨X, eX⟩ : ∃ X : FVec Ideal S8x256x64x512 .f32, m ((c : Thread nD τ).loc main_arg0) = X := ⟨_, rfl⟩
  rw [eyc] at hyc
  rw [epk] at hpk
  rw [eX] at hx h0
  have pre : ∀ (n : Fin 8) (g : Fin 256) (r : Fin 64) (t : Fin 512), X (ix4 n g r t) * pk (ix4 0 g 0 0) + yc (ix4 0 g 0 t)
      = ((∑ k, C k g * state A b (t.val + 1) k + x n g r t * D g : ℝ) : EReal) := by
    intro n g r t
    rw [(hpk g).1, hD, hyc, hx, ← EReal.coe_mul, ← EReal.coe_add, add_comm]
  rw [e, region1 (V3 m ρ) c h0 eyc epk fun n g r t => by rw [pre, hx]; exact residual_real _ _]
  show layer (fun g => residual (X (ix4 n g r t)) (X (ix4 n g r t) * pk (ix4 0 g 0 0) + yc (ix4 0 g 0 t)))
    (pk (ix4 0 f 1 0)) (pk (ix4 0 f 2 0)) f = _
  simp only [pre]
  simp only [hx]
  rw [(hpk f).2.1, (hpk f).2.2]

end Cert.Proof

end
-- ==== Proof.States.lean ====
/-
  What the reference's loop leaves: after `k` trips the carried vector is the state after `k` steps, and row `n` of the
  carried array, for every `n` below `k`, is the state after `n + 1` steps.
-/
module

public import proofs.«01_k».proof.Proof.Gen.ReferenceIdeal.Run
public import proofs.«01_k».proof.Proof.Recurrence
public import proofs.«01_k».proof.Proof.Scalars
public import Idealize.ShloMosaic.Lib.DynamicIndex

@[expose] public section

set_option maxRecDepth 16384

noncomputable section

namespace Cert.Proof.Ref

open Idealize.ShloMosaic Idealize.ShloMosaic.Tactic Idealize.ShloMosaic.StableHlo Idealize.SL.Sem Cert.ReferenceIdeal Cert.ReferenceIdeal.Gen Cert.ReferenceIdeal.Value

/-- One step: the matrix applied to a vector, plus the offset, in real numbers. -/
theorem step_at (X : FVec Ideal S32x32 .f32) (s B : FVec Ideal S32 .f32) {A : Matrix (Fin 32) (Fin 32) ℝ} {v b : Fin 32 → ℝ}
    (hX : ∀ i j, X (ix2 i j) = ((A i j : ℝ) : EReal)) (hs : ∀ i, s (ix1 i) = ((v i : ℝ) : EReal))
    (hB : ∀ i, B (ix1 i) = ((b i : ℝ) : EReal)) (i : Fin 32) :
    addf (Host.dotGeneral (φ₁ := .f32) (φ₂ := .f32) dot_S32x32_S32_S32_1_0_0_n_n_n none X s) B (ix1 i)
      = (((A.mulVec v + b) i : ℝ) : EReal) := by
  pointwise
  simp only [hX, hs, hB, ← EReal.coe_mul, ← coe_sum, ← EReal.coe_add]
  rfl

/-- Writing a vector as row `k` of an array: that row is the vector, the others are as they were. -/
theorem write_at (Y : FVec Ideal S512x32 .f32) (u : FVec Ideal S32 .f32) (start : Fin 2 → Int) (k : ℕ) (hk : k < 512)
    (h0 : start 0 = k) (h1 : start 1 = 0) (n : Fin 512) (i : Fin 32) :
    Host.dynamicUpdateSlice Y (broadcastInDim S1x32 ![1] bcast_S32_S1x32_1 u) start updateFits_S512x32_S1x32 (ix2 n i)
      = if n.val = k then u (ix1 i) else Y (ix2 n i) := by
  pointwise
  have c0 := Host.clampedStart_of_le (s := S512x32) (t := S1x32) updateFits_S512x32_S1x32.1 start 0 k h0 (by show k + 1 ≤ 512; omega)
  have c1 := Host.clampedStart_of_le (s := S512x32) (t := S1x32) updateFits_S512x32_S1x32.1 start 1 0 h1 (by decide)
  split
  · next h =>
    rw [if_pos (by omega)]
    exact congrArg (fun q => u (ix1 q)) (Fin.ext (by show i.val - _ = i.val; rw [c1]; omega))
  · next h => rw [if_neg (by omega)]

/-- The carried buffers after `k` trips. -/
structure After (V : Valuation τ sig (Elt Ideal)) (A : Matrix (Fin 32) (Fin 32) ℝ) (b : Fin 32 → ℝ) (k : ℕ) : Prop where
  matrix : ∀ i j, V (Proc.devRef .tc main_v2_0) (ix2 i j) = ((A i j : ℝ) : EReal)
  offset : ∀ i, V (Proc.devRef .tc main_v2_1) (ix1 i) = ((b i : ℝ) : EReal)
  count : V (Proc.devRef .tc main_v2_2) = fun _ => BitVec.ofNat 32 k
  vector : ∀ i, V (Proc.devRef .tc main_v2_3) (ix1 i) = ((state A b k i : ℝ) : EReal)
  rows : ∀ (n : Fin 512) i, n.val < k → V (Proc.devRef .tc main_v2_4) (ix2 n i) = ((state A b (n.val + 1) i : ℝ) : EReal)

variable (m : (ℓ : Loc nD τ sig) → Buf (Elt Ideal) ℓ) (c : Dev nD) {A : Matrix (Fin 32) (Fin 32) ℝ} {b : Fin 32 → ℝ}

/-- Before the first trip. -/
theorem after_zero (hA : ∀ i j, m ((c.tc : Thread nD τ).loc main_arg1) (ix2 i j) = ((A i j : ℝ) : EReal))
    (hb : ∀ i, m ((c.tc : Thread nD τ).loc main_arg2) (ix1 i) = ((b i : ℝ) : EReal)) : After (entryContents preI m c) A b 0 where
  matrix i j := by
    refine Eq.trans ?_ (hA i j)
    simp only [entryContents, afterL_cons, afterL_nil]
    after_reads_simp
    rfl
  offset i := by
    refine Eq.trans ?_ (hb i)
    simp only [entryContents, afterL_cons, afterL_nil]
    after_reads_simp
    rfl
  count := ctr_entry m c
  vector i := by
    simp only [entryContents, afterL_cons, afterL_nil]
    after_reads_simp
    show Ideal.ofBits .f32 0x00000000#32 = _
    rw [Ideal.ofBits_zero]
    rfl
  rows n i h := absurd h (Nat.not_lt_zero _)

/-- One trip. -/
theorem After.step {V : Valuation τ sig (Elt Ideal)} {k : ℕ} (hk : k < 512) (h : After V A b k) : After (STEP V) A b (k + 1) := by
  have hv : ∀ i : Fin 32, res_main_while0b_v46 V (ix1 i) = ((state A b (k + 1) i : ℝ) : EReal) := fun i =>
    step_at _ _ _ h.matrix h.vector h.offset i
  refine ⟨fun i j => ?_, fun i => ?_, ?_, fun i => ?_, fun n i hn => ?_⟩
  · rw [STEP_main_v2_0]; exact h.matrix i j
  · rw [STEP_main_v2_1]; exact h.offset i
  · rw [STEP_main_v2_2, step_main_v2_2, h.count]
    funext j
    show BitVec.ofNat 32 k + 1#32 = BitVec.ofNat 32 (k + 1)
    rw [BitVec.ofNat_add]
  · rw [STEP_main_v2_3]; exact hv i
  · rw [STEP_main_v2_4]
    refine (write_at _ _ _ k hk ?_ rfl n i).trans ?_
    · show (V (Proc.devRef .tc main_v2_2) (Shape.Idx.first h_S_)).toInt = k
      rw [h.count]
      exact toInt_ofNat_of_lt (by omega)
    · split
      · next e => rw [hv, e]
      · next e => exact h.rows n i (by omega)

/-- After `k` trips. -/
theorem after_trips (hA : ∀ i j, m ((c.tc : Thread nD τ).loc main_arg1) (ix2 i j) = ((A i j : ℝ) : EReal))
    (hb : ∀ i, m ((c.tc : Thread nD τ).loc main_arg2) (ix1 i) = ((b i : ℝ) : EReal)) (k : ℕ) (hk : k ≤ 512) :
    After (STEP^[k] (entryContents preI m c)) A b k := by
  induction k with
  | zero => exact after_zero m c hA hb
  | succ k ih => rw [Function.iterate_succ_apply']; exact (ih (by omega)).step (by omega)

end Cert.Proof.Ref

end
-- ==== Proof.RefValue.lean ====
/-
  What the reference computes after its loop, read at an index: the output matrix applied to the states, the gelu of the
  pre-activation added to the input, and the layer norm over the features.
-/
module

public import proofs.«01_k».proof.Proof.Gen.ReferenceIdeal.Run
public import proofs.«01_k».proof.Proof.Scalars

@[expose] public section

set_option maxRecDepth 16384

noncomputable section

namespace Cert.Proof.Ref

open Idealize.ShloMosaic Idealize.SL.Sem Cert.ReferenceIdeal Cert.ReferenceIdeal.Gen Cert.ReferenceIdeal.Value

/-- The pre-activation: the states through the output matrix, plus the input times the skip weights. -/
def preact (x : FVec Ideal S8x256x64x512 .f32) (s : FVec Ideal S512x32 .f32) (C : FVec Ideal S32x256 .f32)
    (D : FVec Ideal S256 .f32) : FVec Ideal S8x256x64x512 .f32 :=
  addf (broadcastInDim S8x256x64x512 ![0, 1, 2, 3] bcast_S1x256x1x512_S8x256x64x512_0_1_2_3
      (broadcastInDim S1x256x1x512 ![1, 3] bcast_S256x512_S1x256x1x512_1_3
        (transpose S256x512 [1, 0] (Host.dotGeneral (φ₁ := .f32) (φ₂ := .f32) dot_S512x32_S32x256_S512x256_1_0_0_1_n_n none s C)
          transposes_S512x256_S256x512_1_0)))
    (mulf x (broadcastInDim S8x256x64x512 ![0, 1, 2, 3] bcast_S1x256x1x1_S8x256x64x512_0_1_2_3
      (broadcastInDim S1x256x1x1 ![1] bcast_S256_S1x256x1x1_1 D)))

/-- The input plus the gelu of the pre-activation, features last. -/
def summed (x t : FVec Ideal S8x256x64x512 .f32) : FVec Ideal S8x64x512x256 .f32 :=
  transpose S8x64x512x256 [0, 2, 3, 1]
    (addf x (mulf (mulf (broadcastInDim S8x256x64x512 ![] bcast_S_S8x256x64x512 (constant S_ .f32 0x3F000000#32)) t)
      (Host.erfc (mulf (Host.negf t) (broadcastInDim S8x256x64x512 ![] bcast_S_S8x256x64x512 (constant S_ .f32 0x3F3504F3#32))))))
    transposes_S8x256x64x512_S8x64x512x256_0_2_3_1

/-- The mean over the features. -/
def mean (o : FVec Ideal S8x64x512x256 .f32) : FVec Ideal S8x64x512x1 .f32 :=
  Host.divf (broadcastInDim S8x64x512x1 ![0, 1, 2] bcast_S8x64x512_S8x64x512x1_0_1_2
      (Host.reduceAdd o (constant S_ .f32 0x00000000#32) reducesTo_S8x64x512x256_S8x64x512_d3 h_S_))
    (broadcastInDim S8x64x512x1 ![] bcast_S_S8x64x512x1 (constant S_ .f32 0x43800000#32))

/-- What is left after the mean is taken off. -/
def centred (o : FVec Ideal S8x64x512x256 .f32) : FVec Ideal S8x64x512x256 .f32 :=
  subf o (broadcastInDim S8x64x512x256 ![0, 1, 2, 3] bcast_S8x64x512x1_S8x64x512x256_0_1_2_3 (mean o))

/-- The layer norm with its scale and offset, features second. -/
def normed (o : FVec Ideal S8x64x512x256 .f32) (w b : FVec Ideal S256 .f32) : FVec Ideal S8x256x64x512 .f32 :=
  transpose S8x256x64x512 [0, 3, 1, 2]
    (addf (mulf (mulf (centred o) (broadcastInDim S8x64x512x256 ![0, 1, 2, 3] bcast_S8x64x512x1_S8x64x512x256_0_1_2_3
          (Host.rsqrt (addf (mean (mulf (centred o) (centred o)))
            (broadcastInDim S8x64x512x1 ![] bcast_S_S8x64x512x1 (constant S_ .f32 0x3727C5AC#32))))))
        (broadcastInDim S8x64x512x256 ![0, 1, 2, 3] bcast_S1x1x1x256_S8x64x512x256_0_1_2_3
          (broadcastInDim S1x1x1x256 ![3] bcast_S256_S1x1x1x256_3 w)))
      (broadcastInDim S8x64x512x256 ![0, 1, 2, 3] bcast_S1x1x1x256_S8x64x512x256_0_1_2_3
        (broadcastInDim S1x1x1x256 ![3] bcast_S256_S1x1x1x256_3 b)))
    transposes_S8x64x512x256_S8x256x64x512_0_3_1_2

/-- The result from the loop's final contents, stage by stage. -/
theorem out_eq (V : Valuation τ sig (Elt Ideal)) : out_main_v44 V
    = normed (summed (V (Proc.devRef .tc main_arg0)) (preact (V (Proc.devRef .tc main_arg0)) (V (Proc.devRef .tc main_v2_4))
        (V (Proc.devRef .tc main_arg3)) (V (Proc.devRef .tc main_arg4))))
      (V (Proc.devRef .tc main_arg5)) (V (Proc.devRef .tc main_arg6)) := rfl

/-- The result at an element: the layer norm over the features of the residuals. -/
theorem tail_at (x : FVec Ideal S8x256x64x512 .f32) (s : FVec Ideal S512x32 .f32) (C : FVec Ideal S32x256 .f32)
    (D w b : FVec Ideal S256 .f32) (n : Fin 8) (f : Fin 256) (r : Fin 64) (t : Fin 512) :
    normed (summed x (preact x s C D)) w b (ix4 n f r t)
      = layer (fun g => residual (x (ix4 n g r t)) (∑ k, s (ix2 t k) * C (ix2 k g) + x (ix4 n g r t) * D (ix1 g)))
          (w (ix1 f)) (b (ix1 f)) f := by
  have h : ∀ g : Fin 256, summed x (preact x s C D) (ix4 n r t g)
      = residual (x (ix4 n g r t)) (∑ k, s (ix2 t k) * C (ix2 k g) + x (ix4 n g r t) * D (ix1 g)) := by
    intro g
    rw [← residual_erfc]
    pointwise [summed, preact]
  generalize summed x (preact x s C D) = o at h
  pointwise [normed, centred, mean]
  rw [← funext h]
  rfl

end Cert.Proof.Ref

end
-- ==== Proof.RefWhole.lean ====
/-
  The reference program's result array in terms of its seven arguments: the loop's states put into what follows it.
-/
module

public import proofs.«01_k».proof.Proof.States
public import proofs.«01_k».proof.Proof.RefValue

@[expose] public section

set_option maxRecDepth 16384

noncomputable section

namespace Cert.Proof.Ref

open Idealize.ShloMosaic Idealize.ShloMosaic.StableHlo Idealize.SL.Sem Cert.ReferenceIdeal Cert.ReferenceIdeal.Gen
open Cert.ReferenceIdeal.Value

variable (m : (ℓ : Loc nD τ sig) → Buf (Elt Ideal) ℓ) (c : Dev nD)

/-- The reference's result at an index, the first five arguments being arrays of real numbers. -/
theorem reference_value {x : Fin 8 → Fin 256 → Fin 64 → Fin 512 → ℝ} {A : Matrix (Fin 32) (Fin 32) ℝ} {b : Fin 32 → ℝ}
    {C : Fin 32 → Fin 256 → ℝ} {D : Fin 256 → ℝ}
    (hx : ∀ n g r t, m ((c.tc : Thread nD τ).loc main_arg0) (ix4 n g r t) = ((x n g r t : ℝ) : EReal))
    (hA : ∀ i j, m ((c.tc : Thread nD τ).loc main_arg1) (ix2 i j) = ((A i j : ℝ) : EReal))
    (hb : ∀ i, m ((c.tc : Thread nD τ).loc main_arg2) (ix1 i) = ((b i : ℝ) : EReal))
    (hC : ∀ i f, m ((c.tc : Thread nD τ).loc main_arg3) (ix2 i f) = ((C i f : ℝ) : EReal))
    (hD : ∀ f, m ((c.tc : Thread nD τ).loc main_arg4) (ix1 f) = ((D f : ℝ) : EReal))
    (n : Fin 8) (f : Fin 256) (r : Fin 64) (t : Fin 512) :
    out_main_v44 (STEP^[512] (entryContents preI m c)) (ix4 n f r t)
      = layer (fun g => residual (x n g r t : ℝ) ((∑ k, C k g * state A b (t.val + 1) k + x n g r t * D g : ℝ) : EReal))
          (m ((c.tc : Thread nD τ).loc main_arg5) (ix1 f)) (m ((c.tc : Thread nD τ).loc main_arg6) (ix1 f)) f := by
  have hs := (after_trips m c hA hb 512 le_rfl).rows t
  have h0 := iter_main_arg0 m c 512
  have h3 := iter_main_arg3 m c 512
  have h4 := iter_main_arg4 m c 512
  have h5 := iter_main_arg5 m c 512
  have h6 := iter_main_arg6 m c 512
  generalize STEP^[512] (entryContents preI m c) = V at hs h0 h3 h4 h5 h6 ⊢
  rw [out_eq, h0, h3, h4, h5, h6]
  refine (tail_at _ _ _ _ _ _ n f r t).trans ?_
  congr 1
  funext g
  rw [hx]
  congr 1
  rw [EReal.coe_add, coe_sum, EReal.coe_mul, hD]
  congr 1
  refine Finset.sum_congr rfl fun k _ => ?_
  rw [hs k t.isLt, hC, mul_comm, EReal.coe_mul]

end Cert.Proof.Ref

end
-- ==== Proof.Equation.lean ====
/-
  The equation: from memories agreeing on the arguments, with the first five arrays finite, the kernel program's result
  array is the reference's, and so the algebraic claim.
-/
module

public import proofs.«01_k».proof.Defs
public import proofs.«01_k».proof.Proof.Run
public import proofs.«01_k».proof.Proof.Finite
public import proofs.«01_k».proof.Proof.Whole
public import proofs.«01_k».proof.Proof.RefWhole
public import Idealize.ShloMosaic.Lib.StableHlo.RunHlo

@[expose] public section

set_option maxRecDepth 16384

noncomputable section

namespace Cert.Proof

open Idealize.ShloMosaic Idealize.ShloMosaic.StableHlo Idealize.SL.Sem

/-- Finite arguments are arrays of real numbers, and both results are then the same layer norm of the same residuals. -/
theorem result_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Pre_KernelIdeal_finite m) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.out_main_v44
        (Cert.ReferenceIdeal.Value.STEP^[512] (entryContents Cert.ReferenceIdeal.Value.preI m' c))
      = Cert.KernelIdeal.Gen.W4 m ρ c (Proc.devRef .tc Cert.KernelIdeal.main_v7) := by
  obtain ⟨p0, p1, p2, p3, p4⟩ := hpre c
  obtain ⟨x, hx⟩ := real_array _ _ p0
  obtain ⟨A, hA⟩ := real_array _ _ p1
  obtain ⟨b, hb⟩ := real_array _ _ p2
  obtain ⟨C, hC⟩ := real_array _ _ p3
  obtain ⟨D, hD⟩ := real_array _ _ p4
  funext j
  obtain ⟨n, f, r, t, rfl⟩ : ∃ n f r t, j = ix4 n f r t := ⟨_, _, _, _, eq_ix4 j⟩
  refine (Ref.reference_value m' c (x := fun n g r t => x (ix4 n g r t)) (A := fun i j => A (ix2 i j)) (b := fun i => b (ix1 i))
    (C := fun i f => C (ix2 i f)) (D := fun f => D (ix1 f)) (fun n g r t => (congrFun e0 _).trans (hx _))
    (fun i j => (congrFun e1 _).trans (hA _)) (fun i => (congrFun e2 _).trans (hb _)) (fun i f => (congrFun e3 _).trans (hC _))
    (fun f => (congrFun e4 _).trans (hD _)) n f r t).trans ?_
  refine Eq.trans ?_ (kernel_value m ρ c (fun n g r t => hx _) (fun i j => hA _) (fun i => hb _) (fun i f => hC _)
    (fun f => hD _) n f r t).symm
  rw [e5, e6]

/-- The kernel and the reference on the extended reals agree. -/
theorem algebraic : Cert.algebraic_KernelIdeal_ReferenceIdeal_pre_finite := by
  intro m ρ m' ρ' hpre hag
  refine ⟨fun c => Cert.KernelIdeal.Gen.W4 m ρ c (Proc.devRef .tc Cert.KernelIdeal.main_v7), Run.run m ρ, ?_⟩
  refine θ_run_mono (Cert.ReferenceIdeal.Value.run m' ρ') fun r h c => ?_
  obtain ⟨h7, hargs⟩ := h c
  obtain ⟨e0, e1, e2, e3, e4, e5, e6⟩ := hag c
  exact ⟨h7.trans (result_eq m ρ m' hpre c e0 e1 e2 e3 e4 e5 e6), hargs⟩

end Cert.Proof

end
-- ==== Proof.lean ====
/-
  The certificate's theorem: the frames, the rewriting of the kernel to the extended reals, and the equation between the
  kernel's result and the reference's.
-/
module

public import proofs.«01_k».proof.Defs
public import proofs.«01_k».proof.Proof.Frames
public import proofs.«01_k».proof.Proof.Equation

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite.Gen.facts,
    frame_kernel, frame_kernelIdeal, frame_kernelIdeal_pre, frame_referenceIdeal, frame_referenceIdeal_pre, trivial, algebraic⟩

end Cert.Proof

end
